-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x8x2048 : Shape := ⟨3, ![64, 8, 2048]⟩
abbrev S8x2048x2048 : Shape := ⟨3, ![8, 2048, 2048]⟩
abbrev S64x16384 : Shape := ⟨2, ![64, 16384]⟩
abbrev S16384x2048 : Shape := ⟨2, ![16384, 2048]⟩
abbrev S1024x2048 : Shape := ⟨2, ![1024, 2048]⟩
abbrev S64x2048 : Shape := ⟨2, ![64, 2048]⟩
abbrev S64x1024 : Shape := ⟨2, ![64, 1024]⟩

abbrev nBuf : Space → Nat
  | .hbm => 8
  | .vmem => 8
  | .smem => 0
  | _ => 0

abbrev bufTy : (tb : Table) → Fin (tcTables nBuf tb) → BufTy
  | .hbm, ⟨0, _⟩ => ⟨S64x8x2048, .f32⟩
  | .hbm, ⟨1, _⟩ => ⟨S64x8x2048, .f32⟩
  | .hbm, ⟨2, _⟩ => ⟨S8x2048x2048, .f32⟩
  | .hbm, ⟨3, _⟩ => ⟨S64x16384, .f32⟩
  | .hbm, ⟨4, _⟩ => ⟨S64x16384, .f32⟩
  | .hbm, ⟨5, _⟩ => ⟨S16384x2048, .f32⟩
  | .hbm, ⟨6, _⟩ => ⟨S64x16384, .f32⟩
  | .hbm, ⟨7, _⟩ => ⟨S64x8x2048, .f32⟩
  | .local _ .vmem, ⟨0, _⟩ => ⟨S1024x2048, .f32⟩
  | .local _ .vmem, ⟨1, _⟩ => ⟨S1024x2048, .f32⟩
  | .local _ .vmem, ⟨2, _⟩ => ⟨S64x2048, .f32⟩
  | .local _ .vmem, ⟨3, _⟩ => ⟨S64x2048, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | _, _ => ⟨S64x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def k0_off1 (i : grid0.Coords) : Fin 2 → Nat :=
  let c0_6 : Index := 0#32
  let arg1 : BitVec 32 := BitVec.ofNat 32 (i 1).val
  let c1024_i32 : BitVec 32 := 1024#32
  let v10 : BitVec 32 := Scalar.muli arg1 c1024_i32
  let v11 : Index := Scalar.indexCast v10
  ![0, v11.toNat]
def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S64x8x2048 : Shape := ⟨3, ![64, 8, 2048]⟩
abbrev S8x2048x2048 : Shape := ⟨3, ![8, 2048, 2048]⟩
abbrev S8x64x2048 : Shape := ⟨3, ![8, 64, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S64x8x2048, .f32⟩
  | .hbm, ⟨1, _⟩ => ⟨S64x8x2048, .f32⟩
  | .hbm, ⟨2, _⟩ => ⟨S8x2048x2048, .f32⟩
  | .hbm, ⟨3, _⟩ => ⟨S8x64x2048, .f32⟩
  | .hbm, ⟨4, _⟩ => ⟨S64x8x2048, .f32⟩
  | .hbm, ⟨5, _⟩ => ⟨S64x8x2048, .f32⟩
  | .hbm, ⟨6, _⟩ => ⟨S_, .f32⟩
  | .hbm, ⟨7, _⟩ => ⟨S64x8x2048, .f32⟩
  | .hbm, ⟨8, _⟩ => ⟨S64x8x2048, .f32⟩
  | .hbm, ⟨9, _⟩ => ⟨S64x8x2048, .f32⟩
  | .hbm, ⟨10, _⟩ => ⟨S_, .f32⟩
  | .hbm, ⟨11, _⟩ => ⟨S64x8x2048, .f32⟩
  | .hbm, ⟨12, _⟩ => ⟨S64x8x2048, .f32⟩
  | .hbm, ⟨13, _⟩ => ⟨S_, .f32⟩
  | .hbm, ⟨14, _⟩ => ⟨S64x8x2048, .f32⟩
  | .hbm, ⟨15, _⟩ => ⟨S64x8x2048, .f32⟩
  | .hbm, ⟨16, _⟩ => ⟨S64x8x2048, .f32⟩
  | _, _ => ⟨S64x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Proof.Step.lean ====
/- THE MATHEMATICS OF ONE ENTRY. One advance of the reservoir computes, entry by entry, the leaky update of a
   pre-activation that is a dot product plus an input plus a bias (`leaky`). Here it is stated over the extended reals,
   with the three constants as the rationals that their float words are, and the kernel's block computation is read at an
   index as this function of one row of the state block and one row of the weight block (`payload_apply`). -/
module

public import proofs.«01_k».proof.Proof.Gen.KernelIdeal.Skeleton
public import Idealize.ShloMosaic.Lib.Pipeline.Value
public import Idealize.ShloMosaic.Lib.ValueIdx
public import Idealize.ShloMosaic.PureOps.Ideal.Laws

@[expose] public section

noncomputable section

namespace Cert.Proof.Esn

open Idealize.ShloMosaic Idealize.ShloMosaic.ValueIdx
open scoped BigOperators

/-- The leaky update: `leak · tanh (d + u + bias) + (1 − leak) · r`, for a dot product `d`, an input `u` and an old state `r`. -/
def leaky (d u r : EReal) : EReal :=
  Ideal.ofBits .f32 0x3F19999A#32 * Ideal.tanh (d + u + Ideal.ofBits .f32 0x3FCCCCCD#32)
    + Ideal.ofBits .f32 0x3ECCCCCD#32 * r

open Cert.KernelIdeal Cert.KernelIdeal.Gen

/-- The block product's dimension numbers, under a short name. -/
abbrev bd : DotDims S64x2048 S1024x2048 S64x1024 := dot_S64x2048_S1024x2048_S64x1024_1_1_0_0_n_n

/-- The left factor at output `(s, j)` and contraction position `k` is read at `(s, k)`. -/
theorem bd_lhs (s : Fin 64) (j : Fin 1024) (q : bd.contr.Idx) :
    bd.lhsIdx (ix2 s j) q = ix2 s ⟨(q ⟨0, by decide⟩).val, (q ⟨0, by decide⟩).isLt⟩ :=
  Shape.idx_ext₂
    (by
      unfold DotDims.lhsIdx
      rw [dif_neg (show ¬(0 : Fin S64x2048.rank) ∈ bd.lhsBatch by decide),
        dif_pos (show (0 : Fin S64x2048.rank) ∈ bd.lhsNonContracting by decide)]
      rfl)
    (bd.lhsIdx_val_of_single rfl _ q)

/-- The right factor is read at `(j, k)`: the product is with the transposed weight block. -/
theorem bd_rhs (s : Fin 64) (j : Fin 1024) (q : bd.contr.Idx) :
    bd.rhsIdx (ix2 s j) q = ix2 j ⟨(q ⟨0, by decide⟩).val, (q ⟨0, by decide⟩).isLt⟩ :=
  Shape.idx_ext₂
    (by
      unfold DotDims.rhsIdx
      rw [dif_neg (show ¬(0 : Fin S1024x2048.rank) ∈ bd.rhsBatch by decide),
        dif_pos (show (0 : Fin S1024x2048.rank) ∈ bd.rhsNonContracting by decide)]
      rfl)
    (bd.rhsIdx_val_of_single rfl _ q)

/-- The block product into a zero accumulator, at `(s, j)`: the sum over `k` of state `(s, k)` times weight `(j, k)`. -/
theorem product_apply (x : FVec Ideal S64x2048 .f32) (w : FVec Ideal S1024x2048 .f32) (s : Fin 64) (j : Fin 1024) :
    matmul bd none x w (constant S64x1024 .f32 0x00000000#32) (ix2 s j)
      = ∑ k : Fin 2048, x (ix2 s k) * w (ix2 j k) := by
  refine (Ideal.matmul_constant_zero_apply bd none x w (ix2 s j)).trans ?_
  rw [← Equiv.sum_comp (contrEquiv1 bd 2048 rfl rfl).symm]
  refine Finset.sum_congr rfl fun k _ => ?_
  have hk := contrEquiv1_symm_val bd 2048 rfl rfl k
  rw [bd_lhs, bd_rhs]
  exact congrArg₂ (· * ·) (congrArg x (Shape.idx_ext₂ rfl hk)) (congrArg w (Shape.idx_ext₂ rfl hk))

/-- WHAT ONE BLOCK COMPUTES: from a weight block `w`, the chunk's states `x`, an input block `u` and the matching slice
    `r` of the states, the stored value at `(s, j)` is the leaky update of the product of `x`'s row `s` and `w`'s row `j`. -/
theorem payload_apply (w : Vec Ideal S1024x2048 .f32) (x : Vec Ideal S64x2048 .f32) (u r : Vec Ideal S64x1024 .f32)
    (s : Fin 64) (j : Fin 1024) :
    k0_pay1 w x u r (ix2 s j) = leaky (∑ k : Fin 2048, x (ix2 s k) * w (ix2 j k)) (u (ix2 s j)) (r (ix2 s j)) := by
  rw [← product_apply]
  unfold k0_pay1
  simp only [shapeCast_self]
  rfl

end Cert.Proof.Esn

end
-- ==== Proof.Flat.lean ====
/- WHAT THE KERNEL'S ARRAY HOLDS. The call works on flat arrays: states and inputs are 64 × 16384 (eight chunks of 2048
   columns side by side) and the weights 16384 × 2048 (eight square matrices one under the other). Grid point `t` takes
   rows `1024·t …` of the weights, chunk `t / 2` of the states, and columns `1024·t …` of the inputs and of the result.
   Every point writes its block of ONE function of the three flat arrays (`advanceFlat`), and the sixteen blocks cover the
   result, so the result is that function (`final`). -/
module

public import proofs.«01_k».proof.Proof.Step
public import proofs.«01_k».proof.Proof.Gen.KernelIdeal.Frame
public import Idealize.ShloMosaic.Lib.Pipeline.ValueKit.Tiles

@[expose] public section

set_option maxRecDepth 16384

noncomputable section

namespace Cert.Proof.Esn

open Idealize.ShloMosaic Idealize.ShloMosaic.ValueIdx Idealize.ShloMosaic.TcCoe
open Cert.KernelIdeal Cert.KernelIdeal.Gen
open scoped BigOperators

/-- Column `k` of the chunk that holds flat column `n`. -/
abbrev chunkCol (n : Fin 16384) (k : Fin 2048) : Fin 16384 := ⟨n.val / 2048 * 2048 + k.val, by omega⟩

/-- The whole advance on flat arrays: entry `(s, n)` is the leaky update of the product of row `s` of `n`'s chunk of the
    states with row `n` of the weights. -/
def advanceFlat (w : S16384x2048.Idx → EReal) (r u : S64x16384.Idx → EReal) : S64x16384.Idx → EReal := fun i =>
  leaky (∑ k : Fin 2048, r (ix2 (i 0) (chunkCol (i 1) k)) * w (ix2 (i 1) k)) (u i) (r i)

variable (m : (ℓ : Loc nD τ sig) → Buf (Elt Ideal) ℓ)

/-- Where each window's block sits at grid point `t`, and which half of its chunk the point works on. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = t.val / 2)
    ∧ (win0_2.index t (0 : Fin 2) = 0 ∧ win0_2.index t (1 : Fin 2) = t.val)
    ∧ (win0_3.index t (0 : Fin 2) = 0 ∧ win0_3.index t (1 : Fin 2) = t.val)
    ∧ (k0_off1 (grid0.coords t) (0 : Fin 2) = 0 ∧ k0_off1 (grid0.coords t) (1 : Fin 2) = t.val % 2 * 1024) :=
  (by decide +kernel : ∀ t : Fin grid0.N, _)

theorem t_lt (t : Fin cfg0.N) : t.val < 16 := lt_of_lt_of_eq t.isLt N_0

/-- Column `j` of grid point `t`'s block is flat column `1024·t + j`. -/
abbrev col (t : Fin cfg0.N) (j : Fin 1024) : Fin 16384 := ⟨t.val * 1024 + j.val, by have := t_lt t; omega⟩

/-- The weight block at point `t` is rows `1024·t …` of the flat weights. -/
theorem weights_apply (c : Dev nD) (t : Fin cfg0.N) (j : Fin 1024) (k : Fin 2048) :
    iblk m c 0 t (ix2 j k) = V m c main_v2 (ix2 (col t j) k) := by
  obtain ⟨⟨e0, e1⟩, -⟩ := idx_facts t
  refine congrArg (V m c main_v2) (Shape.idx_ext₂ ?_ ?_)
  · show win0_0.index t (0 : Fin 2) * 1024 + 1 * j.val = t.val * 1024 + j.val; omega
  · show win0_0.index t (1 : Fin 2) * 2048 + 1 * k.val = k.val; omega

/-- The state block at point `t` is chunk `t / 2`, the chunk that holds the point's columns. -/
theorem states_apply (c : Dev nD) (t : Fin cfg0.N) (s : Fin 64) (j : Fin 1024) (k : Fin 2048) :
    iblk m c 1 t (ix2 s k) = V m c main_v1 (ix2 s (chunkCol (col t j) k)) := by
  obtain ⟨-, ⟨e0, e1⟩, -⟩ := idx_facts t
  refine congrArg (V m c main_v1) (Shape.idx_ext₂ ?_ ?_)
  · show win0_1.index t (0 : Fin 2) * 64 + 1 * s.val = s.val; omega
  · show win0_1.index t (1 : Fin 2) * 2048 + 1 * k.val = (t.val * 1024 + j.val) / 2048 * 2048 + k.val; omega

/-- The input block at point `t` is columns `1024·t …` of the flat inputs. -/
theorem inputs_apply (c : Dev nD) (t : Fin cfg0.N) (s : Fin 64) (j : Fin 1024) :
    iblk m c 2 t (ix2 s j) = V m c main_v0 (ix2 s (col t j)) := by
  obtain ⟨-, -, ⟨e0, e1⟩, -⟩ := idx_facts t
  refine congrArg (V m c main_v0) (Shape.idx_ext₂ ?_ ?_)
  · show win0_2.index t (0 : Fin 2) * 64 + 1 * s.val = s.val; omega
  · show win0_2.index t (1 : Fin 2) * 1024 + 1 * j.val = t.val * 1024 + j.val; omega

/-- The slice of the state block that the body loads a second time is the states at the point's own columns. -/
theorem slice_apply (c : Dev nD) (t : Fin cfg0.N) (s : Fin 64) (j : Fin 1024) :
    View.ld (iblk m c 1 t : Vec Ideal S64x2048 .f32)
        (Rect.unit (s := S64x2048) (k0_off1 (grid0.coords t)) S64x1024.size (k0_off1_inb (grid0.coords t))) (ix2 s j)
      = V m c main_v1 (ix2 s (col t j)) := by
  obtain ⟨-, ⟨e0, e1⟩, -, -, ⟨o0, o1⟩⟩ := idx_facts t
  have hj : t.val % 2 * 1024 + j.val < 2048 := by omega
  refine (View.ld_unit_apply_of _ _ _ _ _ (ix2 s ⟨t.val % 2 * 1024 + j.val, hj⟩) fun a => ?_).trans ?_
  · match a with
    | ⟨0, _⟩ => show s.val = k0_off1 (grid0.coords t) (0 : Fin 2) + s.val; omega
    | ⟨1, _⟩ => show t.val % 2 * 1024 + j.val = k0_off1 (grid0.coords t) (1 : Fin 2) + j.val; omega
  rw [states_apply m c t s j]
  refine congrArg (V m c main_v1) (Shape.idx_ext₂ rfl ?_)
  show (t.val * 1024 + j.val) / 2048 * 2048 + (t.val % 2 * 1024 + j.val) = t.val * 1024 + j.val
  omega

theorem zero2 : (![0, 0] : Fin 2 → Nat) = fun _ => 0 := funext fun a => by fin_cases a <;> rfl

/-- The body leaves its one store's payload, of the three input blocks and of the slice. -/
theorem outs_eq (c : Dev nD) (t : Fin cfg0.N) :
    outsAt0 m c t = k0_pay1 (iblk m c 0 t) (iblk m c 1 t) (iblk m c 2 t)
      (View.ld (iblk m c 1 t : Vec Ideal S64x2048 .f32)
        (Rect.unit (s := S64x2048) (k0_off1 (grid0.coords t)) S64x1024.size (k0_off1_inb (grid0.coords t)))) := by
  unfold outsAt0 out0_A_3
  rw [View.read_writes_eq_canon _ _ _ (cover0_A_3 c _ _ _ _ _ _ _ _ _ _ _ _)]
  unfold kernelRun0_A
  dsimp only
  sl_unfold_words
  simp only [View.readAt_eq_ld, (hs0_0 t).read_unread, (hs0_1 t).read_unread, (hs0_2 t).read_unread]
  rw [View.canon_unit_zero zero2, View.ld_unit_zero zero2, View.ld_unit_zero zero2, View.ld_unit_zero zero2]
  rfl

/-- What point `t` leaves at `(s, j)` is the whole advance at `(s, 1024·t + j)`. -/
theorem outs_apply (c : Dev nD) (t : Fin cfg0.N) (s : Fin 64) (j : Fin 1024) :
    outsAt0 m c t (ix2 s j)
      = advanceFlat (V m c main_v2) (V m c main_v1) (V m c main_v0) (ix2 s (col t j)) := by
  rw [outs_eq, payload_apply, slice_apply, inputs_apply]
  unfold advanceFlat
  refine congrArg (leaky · _ _) (Finset.sum_congr rfl fun k _ => ?_)
  rw [states_apply m c t s j, weights_apply]

/-- The whole advance of the flat arrays as the region finds them. -/
abbrev flatResult (c : Dev nD) : Buf (Elt Ideal) ((c : Thread nD τ).loc main_v3) :=
  advanceFlat (V m c main_v2) (V m c main_v1) (V m c main_v0)

/-- What point `t` writes back is its block of the whole advance. -/
theorem flushed_eq (c : Dev nD) (t : Fin cfg0.N) :
    (dats m 0 c).flushed 3 t = ((cfg0.win 3).blk t).view.read (Elt Ideal) (flatResult m c) := by
  show (cfg0.win 3).cut (grid0.coords t) ((dats m 0 c).after 3 t) = _
  rw [after0_3]
  funext y
  obtain ⟨s, j, rfl⟩ : ∃ (s : Fin 64) (j : Fin 1024), y = ix2 s j := ⟨y 0, y 1, eq_ix2 y⟩
  refine (outs_apply m c t s j).trans ?_
  obtain ⟨-, -, -, ⟨e0, e1⟩, -⟩ := idx_facts t
  refine congrArg (flatResult m c) (Shape.idx_ext₂ ?_ ?_)
  · show s.val = win0_3.index t (0 : Fin 2) * 64 + 1 * s.val; omega
  · show t.val * 1024 + j.val = win0_3.index t (1 : Fin 2) * 1024 + 1 * j.val; omega

/-- A flat index is in point `t`'s block when its column is one of the block's 1024. -/
theorem mem_blk (t : Fin cfg0.N) (i : S64x16384.Idx) :
    i ∈ ((cfg0.win 3).blk t).view.set ↔ t.val * 1024 ≤ (i 1).val ∧ (i 1).val < t.val * 1024 + 1024 := by
  show i ∈ ((View.whole main_v3).slice (win0_3.rect t)).set ↔ _
  rw [View.set_slice_whole, Rect.mem_set_unit]
  obtain ⟨-, -, -, ⟨e0, e1⟩, -⟩ := idx_facts t
  have h0 : (i 0).val < 64 := (i 0).isLt
  refine ⟨fun h => ?_, fun h a => ?_⟩
  · have h1 : win0_3.index t (1 : Fin 2) * 1024 ≤ (i 1).val ∧ (i 1).val < win0_3.index t (1 : Fin 2) * 1024 + 1024 := h 1
    omega
  · match a with
    | ⟨0, _⟩ =>
      show win0_3.index t (0 : Fin 2) * 64 ≤ (i 0).val ∧ (i 0).val < win0_3.index t (0 : Fin 2) * 64 + 64
      omega
    | ⟨1, _⟩ =>
      show win0_3.index t (1 : Fin 2) * 1024 ≤ (i 1).val ∧ (i 1).val < win0_3.index t (1 : Fin 2) * 1024 + 1024
      omega

/-- The sixteen blocks cover the flat result. -/
theorem cover (i : S64x16384.Idx) :
    ∃ t : Fin cfg0.N, (cfg0.win 3).flush t = true ∧ i ∈ ((cfg0.win 3).blk t).view.set := by
  have h1 : (i 1).val < 16384 := (i 1).isLt
  refine ⟨⟨(i 1).val / 1024, lt_of_lt_of_eq (by omega) N_0.symm⟩, flush0_3 _, ?_⟩
  rw [mem_blk]
  dsimp only
  omega

/-- So the flat result array ends at the whole advance. -/
theorem final (c : Dev nD) : (dats m 0 c).arrAt 3 cfg0.N = flatResult m c :=
  (dats m 0 c).arrAt_eq_of_cover 3 (flatResult m c) (fun t _ => flushed_eq m c t) cover

end Cert.Proof.Esn

end
-- ==== Proof.Run.lean ====
/- THE KERNEL'S RUN, READ TO THE END. Before the call the host lays the three arguments out flat, and after it the host
   folds the flat result back to 64 × 8 × 2048. So entry `(s, q, n)` of the result is the leaky update of the product of
   row `(s, q)` of the states with row `(q, n)` of the weights (`advance`, `run`). -/
module

public import proofs.«01_k».proof.Proof.Flat
public import Idealize.ShloMosaic.Lib.StableHlo.Run

@[expose] public section

set_option maxRecDepth 16384

noncomputable section

namespace Cert.Proof.Esn

open Idealize.ShloMosaic Idealize.ShloMosaic.ValueIdx Idealize.ShloMosaic.TcCoe Idealize.SL.Sem
open Cert.KernelIdeal Cert.KernelIdeal.Gen
open scoped BigOperators

/-- The advance of every chunk: at `(s, q, n)`, the leaky update of the sum over `k` of state `(s, q, k)` times weight
    `(q, n, k)`, of input `(s, q, n)` and of state `(s, q, n)`. -/
def advance (u r : S64x8x2048.Idx → EReal) (w : S8x2048x2048.Idx → EReal) : S64x8x2048.Idx → EReal := fun i =>
  leaky (∑ k : Fin 2048, r (ix3 (i 0) (i 1) k) * w (ix3 (i 1) (i 2) k)) (u i) (r i)

/-- Flat column of column `n` of chunk `q`. -/
abbrev flatCol (q : Fin 8) (n : Fin 2048) : Fin 16384 := ⟨q.val * 2048 + n.val, by omega⟩

/-- Laying out 64 × 8 × 2048 flat puts entry `(s, q, n)` at row `s`, column `2048·q + n`. -/
theorem flatten_apply (x : S64x8x2048.Idx → EReal) (h : S64x8x2048.ShapeCasts S64x16384) (s : Fin 64) (q : Fin 8) (n : Fin 2048) :
    shapeCast S64x16384 x h (ix2 s (flatCol q n)) = x (ix3 s q n) := by
  refine shapeCast_apply x h _ _ ?_
  rw [Shape.rowMajor_val_three, Shape.rowMajor_val_two]
  show (s.val * 8 + q.val) * 2048 + n.val = s.val * 16384 + (q.val * 2048 + n.val)
  omega

/-- Laying the eight matrices one under the other puts entry `(q, n, k)` at row `2048·q + n`, column `k`. -/
theorem stack_apply (x : S8x2048x2048.Idx → EReal) (h : S8x2048x2048.ShapeCasts S16384x2048) (q : Fin 8) (n k : Fin 2048) :
    shapeCast S16384x2048 x h (ix2 (flatCol q n) k) = x (ix3 q n k) := by
  refine shapeCast_apply x h _ _ ?_
  rw [Shape.rowMajor_val_three, Shape.rowMajor_val_two]
  rfl

/-- Folding the flat result back reads, at `(s, q, n)`, row `s`, column `2048·q + n`. -/
theorem fold_apply (x : S64x16384.Idx → EReal) (h : S64x16384.ShapeCasts S64x8x2048) (s : Fin 64) (q : Fin 8) (n : Fin 2048) :
    shapeCast S64x8x2048 x h (ix3 s q n) = x (ix2 s (flatCol q n)) := by
  refine shapeCast_apply x h _ _ ?_
  rw [Shape.rowMajor_val_three, Shape.rowMajor_val_two]
  show s.val * 16384 + (q.val * 2048 + n.val) = (s.val * 8 + q.val) * 2048 + n.val
  omega

/-- Flattening the arguments, advancing flat and folding back is the advance of every chunk. -/
theorem fold_advanceFlat (u r : S64x8x2048.Idx → EReal) (w : S8x2048x2048.Idx → EReal)
    (hu : S64x8x2048.ShapeCasts S64x16384) (hw : S8x2048x2048.ShapeCasts S16384x2048) (ho : S64x16384.ShapeCasts S64x8x2048) :
    shapeCast S64x8x2048 (advanceFlat (shapeCast S16384x2048 w hw) (shapeCast S64x16384 r hu) (shapeCast S64x16384 u hu)) ho
      = advance u r w := by
  funext i
  obtain ⟨s, q, n, rfl⟩ : ∃ (s : Fin 64) (q : Fin 8) (n : Fin 2048), i = ix3 s q n := ⟨i 0, i 1, i 2, eq_ix3 i⟩
  rw [fold_apply]
  unfold advanceFlat advance
  rw [flatten_apply, flatten_apply]
  refine congrArg (leaky · _ _) (Finset.sum_congr rfl fun k _ => ?_)
  have hk : chunkCol (flatCol q n) k = flatCol q k := Fin.ext (by
    show (q.val * 2048 + n.val) / 2048 * 2048 + k.val = q.val * 2048 + k.val
    omega)
  show shapeCast S64x16384 r hu (ix2 s (chunkCol (flatCol q n) k)) * shapeCast S16384x2048 w hw (ix2 (flatCol q n) k) = _
  rw [hk, flatten_apply, stack_apply]

variable (m : (ℓ : Loc nD τ sig) → Buf (Elt Ideal) ℓ) (ρ : Dev nD → PrngReg)

/-- The region finds the inputs laid out flat, -/
theorem entry_inputs (c : Dev nD) : V m c main_v0
    = shapeCast S64x16384 (m ((c : Thread nD τ).loc main_arg0)) shapeCasts_S64x8x2048_S64x16384 := by
  show StableHlo.after (List.flatten [hostOps0]) (fun b => m (c, b)) (Proc.devRef .tc main_v0) = _
  simp only [List.flatten_cons, List.flatten_nil, List.append_nil]
  after_results
  rfl

/-- and the states, -/
theorem entry_states (c : Dev nD) : V m c main_v1
    = shapeCast S64x16384 (m ((c : Thread nD τ).loc main_arg1)) shapeCasts_S64x8x2048_S64x16384 := by
  show StableHlo.after (List.flatten [hostOps0]) (fun b => m (c, b)) (Proc.devRef .tc main_v1) = _
  simp only [List.flatten_cons, List.flatten_nil, List.append_nil]
  after_results
  rfl

/-- and the weights. -/
theorem entry_weights (c : Dev nD) : V m c main_v2
    = shapeCast S16384x2048 (m ((c : Thread nD τ).loc main_arg2)) shapeCasts_S8x2048x2048_S16384x2048 := by
  show StableHlo.after (List.flatten [hostOps0]) (fun b => m (c, b)) (Proc.devRef .tc main_v2) = _
  simp only [List.flatten_cons, List.flatten_nil, List.append_nil]
  after_results
  rfl

/-- The advance of device `c`'s three arguments: what the kernel's result is shown to be. -/
abbrev result (c : Dev nD) : Buf (Elt Ideal) ((c : Thread nD τ).loc main_v4) :=
  advance (m ((c : Thread nD τ).loc main_arg0)) (m ((c : Thread nD τ).loc main_arg1)) (m ((c : Thread nD τ).loc main_arg2))

/-- The line after the region leaves the flat result folded back: the advance of the arguments. -/
theorem tail_result (c : Dev nD) :
    Pipeline.afterTail₀ cfgs (dats m) 0 (V0 m) [hostOps1] c main_v4 = result m c := by
  unfold Pipeline.afterTail₀
  simp only [List.flatten_cons, List.flatten_nil, List.append_nil]
  refine Eq.trans (b := shapeCast S64x8x2048 ((dats m 0 c).arrAt 3 cfg0.N) shapeCasts_S64x16384_S64x8x2048) ?_ ?_
  · after_results
    exact congrArg (fun x => shapeCast S64x8x2048 x shapeCasts_S64x16384_S64x8x2048)
      (Pipeline.withArrays_arr spec0 winFacts0.arr_inj c (V0 m c) (fun w => (dats m 0 c).arrAt w cfg0.N) 3)
  · rw [final]
    unfold flatResult
    rw [entry_inputs, entry_states, entry_weights]
    exact fold_advanceFlat _ _ _ _ _ _

/-- THE RUN: the idealized kernel terminates with its result at the advance of its arguments, and its arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
      ⟨((h c).2 main_v4 (Pipeline.mem_restRefs_of main_v4 (by decide) (by decide))).trans (tail_result m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.Proof.Esn

end
-- ==== Proof.Reference.lean ====
/- WHAT THE REFERENCE COMPUTES. The reference's product is one batched `dot_general` over the chunks, its result moved back
   to the arguments' axis order; the rest is elementwise. Read at an index its result is the same advance. -/
module

public import proofs.«01_k».proof.Proof.Run
public import proofs.«01_k».proof.Proof.Gen.ReferenceIdeal.Run
public import proofs.«01_k».proof.Proof.Gen.ReferenceIdeal.Read

@[expose] public section

noncomputable section

namespace Cert.Proof.Esn

open Idealize.ShloMosaic Idealize.ShloMosaic.ValueIdx
open Cert.ReferenceIdeal Cert.ReferenceIdeal.Read
open scoped BigOperators

/-- The reference's result, for any inputs `u`, states `r` and weights `w`, is the advance of every chunk. -/
theorem reference_eq (u r : S64x8x2048.Idx → EReal) (w : S8x2048x2048.Idx → EReal) :
    val_main_v10 (F := Ideal) u r w = advance u r w := by
  funext i
  obtain ⟨s, q, n, rfl⟩ : ∃ (s : Fin 64) (q : Fin 8) (n : Fin 2048), i = ix3 s q n := ⟨i 0, i 1, i 2, eq_ix3 i⟩
  have product : val_main_v1 (F := Ideal) r w (ix3 s q n) = ∑ k : Fin 2048, r (ix3 s q k) * w (ix3 q n k) := by
    rw [val_main_v1_apply, val_main_v0_apply]
    refine Finset.sum_congr rfl fun k _ => congrArg₂ (· * ·) (congrArg r ?_) (congrArg w ?_)
    · exact eq_ix3 _
    · exact eq_ix3 _
  rw [val_main_v10_apply, val_main_v7_apply, val_main_v5_apply, val_main_v4_apply, val_main_v2_apply, val_main_v9_apply,
    val_main_v3_apply, val_main_v6_apply, val_main_v8_apply, product]
  rfl

end Cert.Proof.Esn

end
-- ==== Proof.lean ====
/- The certificate: one advance of a batched leaky echo-state reservoir. The kernel's frames are generated; the reference's
   frame and the value claim are read off the two runs (Proof/Run.lean, Proof/Reference.lean), which end at the same
   function of the arguments, `Esn.advance`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Reference
public import Idealize.ShloMosaic.Adequacy
public import Idealize.ShloMosaic.Init
public import Idealize.ShloMosaic.Lib.Quiescent

@[expose] public section

noncomputable section

namespace Cert.Proof

open Idealize.ShloMosaic Idealize.SL.Sem

/-- The kernel as printed terminates, leaves its arguments unchanged and every semaphore counter at zero. -/
theorem frame_kernel : Cert.quiescent_Kernel := fun m ρ _ => Cert.Kernel.Gen.frame m ρ

/-- So does its reading over the extended reals. -/
theorem frame_ideal : Cert.quiescent_KernelIdeal := fun m ρ _ => Cert.KernelIdeal.Gen.frame m ρ

/-- So does the reference, which declares no semaphore. -/
theorem frame_reference : Cert.quiescent_ReferenceIdeal := fun m ρ _ =>
  (θ_run Cert.ReferenceIdeal.defs _ _).mono (fun r h =>
      ⟨fun c => (h c).2, Idealize.ShloMosaic.sem_eq_zero_of_no_sems (by decide) r.2⟩)
    (Cert.ReferenceIdeal.Value.run (F := Ideal) m ρ)

/-- The ideal reading rewrote no operation. -/
theorem preserves : Cert.preserves_Kernel_KernelIdeal := trivial

/-- Over the extended reals, from equal arguments, kernel and reference end with equal results: both are `Esn.advance` of
    the arguments. -/
theorem algebraic : Cert.algebraic_KernelIdeal_ReferenceIdeal := by
  intro m ρ m' ρ' _ hagree
  refine ⟨fun c => Esn.result m c, Esn.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2⟩ := hagree c
  rw [h0, h1, h2]
  exact (Cert.ReferenceIdeal.Read.val_main_v10_eq _ _ _).trans (Esn.reference_eq _ _ _)

theorem claim : Cert.Claim :=
  ⟨Cert.Kernel.Gen.facts, Cert.KernelIdeal.Gen.facts, Cert.ReferenceIdeal.Gen.facts,
    frame_kernel, frame_ideal, frame_reference, preserves, algebraic⟩

end Cert.Proof

end
